-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3 : Shape := ⟨3, ![4, 4096, 3]⟩
abbrev S4x4096x512 : Shape := ⟨3, ![4, 4096, 512]⟩
abbrev S4x4096x0 : Shape := ⟨3, ![4, 4096, 0]⟩
abbrev S512x512 : Shape := ⟨2, ![512, 512]⟩
abbrev S512 : Shape := ⟨1, ![512]⟩
abbrev S16384x512 : Shape := ⟨2, ![16384, 512]⟩
abbrev S1x512 : Shape := ⟨2, ![1, 512]⟩
abbrev S7168x512 : Shape := ⟨2, ![7168, 512]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x512, .f32⟩
  | .hbm, ⟨3, _⟩ => ⟨S4x4096x0, .f32⟩
  | .hbm, ⟨4, _⟩ => ⟨S512x512, .f32⟩
  | .hbm, ⟨5, _⟩ => ⟨S512, .f32⟩
  | .hbm, ⟨6, _⟩ => ⟨S16384x512, .f32⟩
  | .hbm, ⟨7, _⟩ => ⟨S1x512, .f32⟩
  | .hbm, ⟨8, _⟩ => ⟨S16384x512, .f32⟩
  | .hbm, ⟨9, _⟩ => ⟨S4x4096x512, .f32⟩
  | .local _ .vmem, ⟨0, _⟩ => ⟨S7168x512, .f32⟩
  | .local _ .vmem, ⟨1, _⟩ => ⟨S7168x512, .f32⟩
  | .local _ .vmem, ⟨2, _⟩ => ⟨S512x512, .f32⟩
  | .local _ .vmem, ⟨3, _⟩ => ⟨S1x512, .f32⟩
  | .local _ .vmem, ⟨4, _⟩ => ⟨S7168x512, .f32⟩
  | .local _ .vmem, ⟨5, _⟩ => ⟨S7168x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x3 : Shape := ⟨3, ![4, 4096, 3]⟩
abbrev S4x4096x512 : Shape := ⟨3, ![4, 4096, 512]⟩
abbrev S4x4096x0 : Shape := ⟨3, ![4, 4096, 0]⟩
abbrev S512x512 : Shape := ⟨2, ![512, 512]⟩
abbrev S512 : Shape := ⟨1, ![512]⟩
abbrev S1x1x512 : Shape := ⟨3, ![1, 1, 512]⟩
abbrev S4x3x4096 : Shape := ⟨3, ![4, 3, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4 : Shape := ⟨1, ![4]⟩
abbrev S4x1x1 : Shape := ⟨3, ![4, 1, 1]⟩
abbrev S4x4096x3x1 : Shape := ⟨4, ![4, 4096, 3, 1]⟩
abbrev S4x4096x3x2 : Shape := ⟨4, ![4, 4096, 3, 2]⟩
abbrev S4x4096x3x0 : Shape := ⟨4, ![4, 4096, 3, 0]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x512, .f32⟩
  | .hbm, ⟨3, _⟩ => ⟨S4x4096x0, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S4x4096x512, .f32⟩
  | .hbm, ⟨8, _⟩ => ⟨S1x1x512, .f32⟩
  | .hbm, ⟨9, _⟩ => ⟨S4x4096x512, .f32⟩
  | .hbm, ⟨10, _⟩ => ⟨S4x4096x512, .f32⟩
  | .hbm, ⟨11, _⟩ => ⟨S4x3x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x3, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x3, .f32⟩
  | .hbm, ⟨23, _⟩ => ⟨S_, .f32⟩
  | .hbm, ⟨24, _⟩ => ⟨S4x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x3, .f32⟩
  | .hbm, ⟨30, _⟩ => ⟨S4x4096x3, .i32⟩
  | .hbm, ⟨31, _⟩ => ⟨S_, .f32⟩
  | .hbm, ⟨32, _⟩ => ⟨S4x4096x3, .f32⟩
  | .hbm, ⟨33, _⟩ => ⟨S4x4096x3, .f32⟩
  | .hbm, ⟨34, _⟩ => ⟨S_, .f32⟩
  | .hbm, ⟨35, _⟩ => ⟨S4x4096x3, .f32⟩
  | .hbm, ⟨36, _⟩ => ⟨S4x4096x3, .f32⟩
  | .hbm, ⟨37, _⟩ => ⟨S_, .f32⟩
  | .hbm, ⟨38, _⟩ => ⟨S4x4096x3, .f32⟩
  | .hbm, ⟨39, _⟩ => ⟨S4x4096x3, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x3, .f32⟩
  | .hbm, ⟨44, _⟩ => ⟨S4x4096x3, .f32⟩
  | .hbm, ⟨45, _⟩ => ⟨S4, .i32⟩
  | .hbm, ⟨46, _⟩ => ⟨S4x1x1, .i32⟩
  | .hbm, ⟨47, _⟩ => ⟨S_, .i32⟩
  | .hbm, ⟨48, _⟩ => ⟨S4x1x1, .i32⟩
  | .hbm, ⟨49, _⟩ => ⟨S4x1x1, .i1⟩
  | .hbm, ⟨50, _⟩ => ⟨S_, .i32⟩
  | .hbm, ⟨51, _⟩ => ⟨S4x1x1, .i32⟩
  | .hbm, ⟨52, _⟩ => ⟨S4x1x1, .i32⟩
  | .hbm, ⟨53, _⟩ => ⟨S4x1x1, .i32⟩
  | .hbm, ⟨54, _⟩ => ⟨S_, .i32⟩
  | .hbm, ⟨55, _⟩ => ⟨S4x4096x3, .i32⟩
  | .hbm, ⟨56, _⟩ => ⟨S4x4096x3, .i1⟩
  | .hbm, ⟨57, _⟩ => ⟨S_, .i32⟩
  | .hbm, ⟨58, _⟩ => ⟨S4x4096x3, .i32⟩
  | .hbm, ⟨59, _⟩ => ⟨S4x4096x3, .i32⟩
  | .hbm, ⟨60, _⟩ => ⟨S4x4096x3, .i32⟩
  | .hbm, ⟨61, _⟩ => ⟨S4x4096x3, .i32⟩
  | .hbm, ⟨62, _⟩ => ⟨S4x4096x3x1, .i32⟩
  | .hbm, ⟨63, _⟩ => ⟨S4x4096x3x1, .i32⟩
  | .hbm, ⟨64, _⟩ => ⟨S4x4096x3x2, .i32⟩
  | .hbm, ⟨65, _⟩ => ⟨S_, .f32⟩
  | .hbm, ⟨66, _⟩ => ⟨S4x4096x3x0, .f32⟩
  | .hbm, ⟨67, _⟩ => ⟨S4x4096x3x1, .f32⟩
  | .hbm, ⟨68, _⟩ => ⟨S4x4096x3x0, .f32⟩
  | .hbm, ⟨69, _⟩ => ⟨S4x4096x3x0, .f32⟩
  | .hbm, ⟨70, _⟩ => ⟨S_, .f32⟩
  | .hbm, ⟨71, _⟩ => ⟨S4x4096x0, .f32⟩
  | .hbm, ⟨72, _⟩ => ⟨S4x4096x512, .f32⟩
  | .hbm, ⟨73, _⟩ => ⟨S512x512, .f32⟩
  | .hbm, ⟨74, _⟩ => ⟨S4x4096x512, .f32⟩
  | .hbm, ⟨75, _⟩ => ⟨S1x1x512, .f32⟩
  | .hbm, ⟨76, _⟩ => ⟨S4x4096x512, .f32⟩
  | .hbm, ⟨77, _⟩ => ⟨S4x4096x512, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Block.lean ====
/-
  What one grid point of the kernel computes, as a function of the three blocks it reads.

  The body treats its block of 7168 rows as fourteen chunks of 512 rows. Each chunk of the result is the
  product of the same chunk of rows with the transposed weights, plus the bias row. `chunk` is that map on one
  chunk and `block` lays the fourteen chunks one under another. Because a chunk of the result reads the same
  chunk of the input and nothing else, two inputs that agree on the first rows, up to a multiple of 512, give
  results that agree there (`block_agree`). The last grid point needs exactly this: its block reaches past the
  end of the array after 2048 rows, which is four whole chunks.
-/
module

public import proofs.«01_k».proof.Proof.Gen.Kernel.Skeleton
public import Idealize.ShloMosaic.Lib.Pipeline.ValueKit.Tiles
public import Idealize.ShloMosaic.Lib.ValueIdx

@[expose] public section

noncomputable section

namespace Cert.Linear

open Cert.Kernel Cert.Kernel.Gen
open Idealize.ShloMosaic Idealize.ShloMosaic.TcCoe Idealize.ShloMosaic.ValueIdx

variable {F : FTy → Type} [FloatOps F]

/-- The result's chunk of 512 rows from the input's chunk, the weights and the bias row. -/
def chunk (x w : Vec F S512x512 .f32) (b : Vec F S1x512 .f32) : FVec F S512x512 .f32 :=
  addf (matmul dot_S512x512_S512x512_S512x512_1_1_0_0_n_n none (shapeCast S512x512 x Facts₀.shapeCasts_S512x512_S512x512) w
      (constant S512x512 .f32 0x00000000#32))
    (broadcastTo S512x512 (shapeCast S1x512 b Facts₀.shapeCasts_S1x512_S1x512) Facts₀.broadcasts_S1x512_S512x512)

/-- Rows `512 j … 512 j + 511` of a block. -/
def rowsOf (X : Vec F S7168x512 .f32) (j : Fin 14) : Vec F S512x512 .f32 :=
  fun x => X (ix2 (⟨512 * j.val + (x 0).val, by have := idx2_lt0 x; have := j.isLt; omega⟩ : Fin 7168) (x 1 : Fin 512))

/-- The chunk that an index of a block lies in, -/
def chunkOf (y : S7168x512.Idx) : Fin 14 := ⟨(y 0).val / 512, by have := idx2_lt0 y; omega⟩

/-- and its place there. -/
def placeOf (y : S7168x512.Idx) : S512x512.Idx :=
  ix2 (⟨(y 0).val % 512, Nat.mod_lt _ (by decide)⟩ : Fin 512) (y 1 : Fin 512)

/-- The result's block of 7168 rows: each index at its place in its chunk. -/
def block (X : Vec F S7168x512 .f32) (w : Vec F S512x512 .f32) (b : Vec F S1x512 .f32) : Vec F S7168x512 .f32 :=
  fun y => chunk (rowsOf X (chunkOf y)) w b (placeOf y)

/-- A chunk computed from the rows read at offset `o`, a multiple of 512, is the block's part at those rows. -/
theorem chunk_eq_block (X : Vec F S7168x512 .f32) (w : Vec F S512x512 .f32) (b : Vec F S1x512 .f32) (o : Nat) (ho : o % 512 = 0)
    (inb : ∀ a, (![o, 0] : Fin 2 → Nat) a + S512x512.size a ≤ S7168x512.size a) (x : S512x512.Idx) (y : S7168x512.Idx)
    (h0 : (y 0 : Nat) = o + (x 0 : Nat)) (h1 : (y 1 : Nat) = (x 1 : Nat)) :
    chunk (View.ld X (Rect.unit (s := S7168x512) ![o, 0] S512x512.size inb)) w b x = block X w b y := by
  have hx : (x 0 : Nat) < 512 := idx2_lt0 x
  have hrows : View.ld X (Rect.unit (s := S7168x512) ![o, 0] S512x512.size inb) = rowsOf X (chunkOf y) := by
    funext z
    have hz : (z 0 : Nat) < 512 := idx2_lt0 z
    refine View.ld_unit_apply_of X _ _ inb z _ fun a => ?_
    fin_cases a
    · show 512 * ((y 0 : Nat) / 512) + (z 0 : Nat) = o + (z 0 : Nat)
      omega
    · show (z 1 : Nat) = 0 + (z 1 : Nat)
      omega
  have hplace : x = placeOf y := by
    funext a
    fin_cases a
    · refine Fin.ext ?_
      show (x 0 : Nat) = (y 0 : Nat) % 512
      omega
    · exact Fin.ext h1.symm
  unfold block
  rw [hrows, ← hplace]

/-- Two inputs that agree on the first `n` rows, `n` a multiple of 512, give results that agree there. -/
theorem block_agree (X X' : Vec F S7168x512 .f32) (w : Vec F S512x512 .f32) (b : Vec F S1x512 .f32) (n : Nat) (hn : n % 512 = 0)
    (h : ∀ y : S7168x512.Idx, (y 0 : Nat) < n → X y = X' y) (y : S7168x512.Idx) (hy : (y 0 : Nat) < n) :
    block X w b y = block X' w b y := by
  have hrows : rowsOf X (chunkOf y) = rowsOf X' (chunkOf y) := by
    funext z
    have hz : (z 0 : Nat) < 512 := idx2_lt0 z
    refine h _ ?_
    show 512 * ((y 0 : Nat) / 512) + (z 0 : Nat) < n
    omega
  unfold block
  rw [hrows]

end Cert.Linear

end
-- ==== Proof.Body.lean ====
/-
  One run of the kernel's body: from its four staging buffers held whole, it leaves the three inputs as they were
  and the output's buffer at `block` of what the inputs' hold, whatever the output's buffer held before. The
  fourteen stores cover the buffer, so what it ends with is read off them chunk by chunk (`chunk_eq_block`).
-/
module

public import proofs.«01_k».proof.Proof.Block
public import proofs.«01_k».proof.Proof.Gen.Kernel.Frame

@[expose] public section

noncomputable section

namespace Cert.Linear

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of all the weights reads the weights; -/
theorem ld_weights (w : Vec F S512x512 .f32) (inb : ∀ a, (![0, 0] : Fin 2 → Nat) a + S512x512.size a ≤ S512x512.size a) :
    View.ld w (Rect.unit (s := S512x512) ![0, 0] S512x512.size inb) = w :=
  funext fun x => View.ld_unit_apply_of w _ _ inb x x fun a => by fin_cases a <;> exact (Nat.zero_add _).symm

/-- and a load of the bias row, the bias row. -/
theorem ld_bias (b : Vec F S1x512 .f32) (inb : ∀ a, (![0, 0] : Fin 2 → Nat) a + S1x512.size a ≤ S1x512.size a) :
    View.ld b (Rect.unit (s := S1x512) ![0, 0] S1x512.size inb) = b :=
  funext fun x => View.ld_unit_apply_of b _ _ inb x x fun a => by fin_cases a <;> exact (Nat.zero_add _).symm

/-- So one pass of the body, from what it loads, stores the block's part at the rows that it writes. -/
theorem chunk_loaded (X : Vec F S7168x512 .f32) (w : Vec F S512x512 .f32) (b : Vec F S1x512 .f32) (o : Nat) (ho : o % 512 = 0)
    (inb : ∀ a, (![o, 0] : Fin 2 → Nat) a + S512x512.size a ≤ S7168x512.size a)
    (inbw : ∀ a, (![0, 0] : Fin 2 → Nat) a + S512x512.size a ≤ S512x512.size a)
    (inbb : ∀ a, (![0, 0] : Fin 2 → Nat) a + S1x512.size a ≤ S1x512.size a) (x : S512x512.Idx) (y : S7168x512.Idx)
    (h0 : (y 0 : Nat) = o + (x 0 : Nat)) (h1 : (y 1 : Nat) = (x 1 : Nat)) :
    chunk (View.ld X (Rect.unit (s := S7168x512) ![o, 0] S512x512.size inb)) (View.ld w (Rect.unit (s := S512x512) ![0, 0] S512x512.size inbw))
      (View.ld b (Rect.unit (s := S1x512) ![0, 0] S1x512.size inbb)) x = block X w b y := by
  rw [ld_weights, ld_bias]
  exact chunk_eq_block X w b o ho inb x y h0 h1

set_option maxHeartbeats 4000000 in
/-- The body on whole staging buffers, the inputs' at contents `X`, `w` and `b` and the output's at anything: it ends
    with the inputs' as they were and the output's at `block X w b`. -/
theorem body_run (c : Dev nD) (E : Set ℕ) (i : grid0.Coords)
    (arg1 : Memref sig .tc .vmem S7168x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S7168x512 .f32) (harg4 : arg4.IsWhole)
    (X : Vec F S7168x512 .f32) (w : Vec F S512x512 .f32) (b : Vec F S1x512 .f32) (K : PUnit → sProp 𝕄) :
    iprop(owns (c : Thread nD τ) arg1 fullShare X ∗ owns (c : Thread nD τ) arg2 fullShare w ∗ owns (c : Thread nD τ) arg3 fullShare b
        ∗ (∃ d, owns (c : Thread nD τ) arg4 fullShare d)
        ∗ (iprop(owns (c : Thread nD τ) arg1 fullShare X ∗ owns (c : Thread nD τ) arg2 fullShare w ∗ owns (c : Thread nD τ) arg3 fullShare b
            ∗ owns (c : Thread nD τ) arg4 fullShare (block X w b)) -∗ K ⟨⟩))
      ⊢ wp frame (wpE (defs₀ (F := F)) Variants.none c none) E
          (cc0__mm_bias_kernel i arg1 harg1 arg2 harg2 arg3 harg3 arg4 harg4) K := by
  simp only [cc0__mm_bias_kernel_eq_skeleton]; unfold cc0__mm_bias_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%d, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ ?_).trans ?_
  · exact fun y => View.cover_of_tiled_head _ _ _ (by rfl) y
  funext y
  canon_tiles x h
  all_goals
    refine chunk_loaded (arg1.view.read (Elt F) f1) (arg2.view.read (Elt F) f2) (arg3.view.read (Elt F) f3) _ ?_ _ _ _ x y ?_ ?_
    · decide
    · omega
    · omega

end Cert.Linear

end
-- ==== Proof.Run.lean ====
/-
  The kernel's run. A point's block of rows comes into its staging buffer filled out, past the end of the array,
  with rows nothing names; the body turns it into `block` of it, and the rows inside the array do not depend on
  the others (`cut_block_fill`). So the pipeline leaves each array at contents that the library computes from the
  proof data `dats`, leaves the other buffers as the host's lines make them, and every counter at zero (`run`).
-/
module

public import proofs.«01_k».proof.Proof.Body

@[expose] public section

noncomputable section

namespace Cert.Linear

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's rows inside the array, filled out to a whole block with `d`. -/
abbrev filled (c : Dev nD) (t : Fin cfg0.N) (d : Vec F S7168x512 .f32) : Vec F S7168x512 .f32 :=
  win0_0.fill (grid0.coords t) d (iblk m c 0 t)

/-- A point's rows with zeros past the end of the array. -/
abbrev rows0 (c : Dev nD) (t : Fin cfg0.N) : Vec F S7168x512 .f32 :=
  filled m c t fun _ => Scalar.ofBits .f32 0#32

/-- The proof data: the arrays as the region finds them; after the body the inputs' buffers hold their blocks and
    the output's the block computed from them. -/
def dats (_ : Fin 1) (c : Dev nD) : Dat τ (Elt F) Unit ℕ (UR sig nD τ) ℕ cfg0 c where
  A w := V m c (Pipeline.arrRef spec0 w)
  after w t := match w with
    | ⟨0, _⟩ => rows0 m c t
    | ⟨1, _⟩ => iblk m c 1 t
    | ⟨2, _⟩ => iblk m c 2 t
    | ⟨3, _⟩ => block (rows0 m c t) (iblk m c 1 t) (iblk m c 2 t)
  Φ _ := Pipeline.ΦA spec0 c
  q _ := fullShare
  owed _ := 0

/-- A point's rows inside the array are whole chunks, and every column is inside. -/
theorem rows_inside (t : Fin cfg0.N) :
    win0_0.xsize (grid0.coords t) 0 % 512 = 0 ∧ win0_0.xsize (grid0.coords t) 1 = 512 := by
  rcases fin_N0 t with rfl | rfl | rfl <;> decide +kernel

/-- Of the computed block, the part inside the array does not depend on what fills out the rows past its end. -/
theorem cut_block_fill (c : Dev nD) (t : Fin cfg0.N) (d d' : Vec F S7168x512 .f32) (w : Vec F S512x512 .f32) (b : Vec F S1x512 .f32) :
    win0_3.cut (grid0.coords t) (block (filled m c t d) w b) = win0_3.cut (grid0.coords t) (block (filled m c t d') w b) := by
  obtain ⟨hn, h1⟩ := rows_inside t
  funext j
  refine block_agree _ _ w b (win0_0.xsize (grid0.coords t) 0) hn (fun y hy => ?_) _ (j 0).isLt
  have hm : win0_0.moved (grid0.coords t) y = true := (win0_0.moved_iff _ y).mpr fun a => by
    match a with
    | ⟨0, _⟩ => exact hy
    | ⟨1, _⟩ =>
      show (y 1 : Nat) < win0_0.xsize (grid0.coords t) 1
      rw [h1]; exact idx2_lt1 y
  unfold filled Pipeline.Window.fill
  rw [dif_pos hm, dif_pos hm]

/-- The first window's buffer arrives just fetched: the point's rows filled out with whatever it held. -/
theorem before_rows (c : Dev nD) (t : Fin cfg0.N) (d) : (dats m 0 c).before 0 t d = filled m c t d := by
  unfold Dat.before; rw [if_pos (fetch0_0 t)]; rfl

/-- What the pipeline calls at a point is the kernel's body there. -/
theorem body_row (t : Fin cfg0.N) :
    defs₀ (F := F) .tc cfg0.body (cfg0.bodyArgs t (cfg0.slots t)) = bodyAt0 t := by
  unfold defs₀; rw [Defs.onTc_tc]

set_option maxHeartbeats 1000000 in
/-- The body's obligation at every point, from `body_run`. -/
theorem body_obligation (c : Dev nD) : BodyObligationLoose (dats m 0 c) (defs₀ (F := F)) Variants.none () Set.univ := fun t => by
  rw [bigSep_W0, bigSep_W0, body_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, H3⟩
  rw [before_rows m c t d0, before0_1_of m (dats m 0 c) rfl (fun _ => rfl) t d1,
    before0_2_of m (dats m 0 c) rfl (fun _ => rfl) t d2]
  iapply (body_run (F := F) c Set.univ (grid0.coords t) _ _ _ _ _ _ _ _
    (filled m c t d0) (iblk m c 1 t) (iblk m c 2 t) _)
  isplitl [H0]; · iexact H0
  isplitl [H1]; · iexact H1
  isplitl [H2]; · iexact H2
  isplitl [H3]
  · icases H3 with ⟨%d3, H3⟩
    iexists _; iexact H3
  iintro ⟨H0, H1, H2, H3⟩
  isplitl [HΦ]; · iexact HΦ
  isplitl [Ho]; · iexact Ho
  have hx : win0_0.cut (grid0.coords t) (rows0 m c t) = iblk m c 0 t := win0_0.cut_fill _ _ _
  have hy := win0_3.fill_congr_cut (grid0.coords t)
    (cut_block_fill m c t d0 (fun _ => Scalar.ofBits .f32 0#32) (iblk m c 1 t) (iblk m c 2 t))
  isplitl [H0]
  · iexists d0
    change _ ⊢ owns (c : Thread nD τ) (stage0_0 (cfg0.slots t 0)) fullShare
      (win0_0.fill (grid0.coords t) d0 (win0_0.cut (grid0.coords t) (rows0 m c t)))
    rw [hx]
  isplitl [H1]; · iexact H1
  isplitl [H2]; · iexact H2
  iexists block (filled m c t d0) (iblk m c 1 t) (iblk m c 2 t)
  change _ ⊢ owns (c : Thread nD τ) (stage0_3 (cfg0.slots t 3)) fullShare
    (win0_3.fill (grid0.coords t) (block (filled m c t d0) (iblk m c 1 t) (iblk m c 2 t))
      (win0_3.cut (grid0.coords t) (block (rows0 m c t) (iblk m c 1 t) (iblk m c 2 t))))
  rw [hy]

-- the launch's theorem is applied by unifying its conclusion with this one's, through plain definitions
set_option backward.isDefEq.respectTransparency.types false in
/-- Every weakly fair execution of @main from zero counters ends with each array of the pipeline at what `dats`
    computes, every other buffer as the host's lines leave it, and every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := _) (hQ' := fun _ h => h)

end Cert.Linear

end
-- ==== Proof.Array.lean ====
/-
  What the output's array holds after the run. `linear` is the map on the whole array of 16384 rows, chunk by
  chunk of 512 rows, as `block` is on one block. A grid point's block starts at a multiple of 7168, which is
  fourteen chunks, so what a point writes back is its part of `linear` (`flushed_linear`). The three points' rows
  are the array's (`covered`), so the array ends at `linear` of what the inputs' arrays held (`array_linear`), and
  the kernel's result at the same elements in its own shape (`result_linear`).
-/
module

public import proofs.«01_k».proof.Proof.Run
public import Idealize.ShloMosaic.Lib.Pipeline.Value

@[expose] public section

noncomputable section

namespace Cert.Linear

open Cert.Kernel Cert.Kernel.Gen
open Idealize.ShloMosaic Idealize.ShloMosaic.TcCoe Idealize.ShloMosaic.ValueIdx
open Idealize.SL Idealize.SL.Sem
open Idealize.ShloMosaic.Pipeline (Dat Window)

variable {F : FTy → Type} [FloatOps F]

variable (m : (ℓ : Loc nD τ sig) → Buf (Elt F) ℓ) (ρ : Dev nD → PrngReg)

/-- The chunk of 512 rows of the array that an index lies in. -/
def chunkAt (A : Vec F S16384x512 .f32) (i : S16384x512.Idx) : Vec F S512x512 .f32 :=
  fun x => A (ix2 (⟨512 * ((i 0).val / 512) + (x 0).val, by have := idx2_lt0 x; have := idx2_lt0 i; omega⟩ : Fin 16384) (x 1 : Fin 512))

/-- An index's place in its chunk. -/
def placeAt (i : S16384x512.Idx) : S512x512.Idx :=
  ix2 (⟨(i 0).val % 512, Nat.mod_lt _ (by decide)⟩ : Fin 512) (i 1 : Fin 512)

/-- The result of 16384 rows: each index at its place in its chunk. -/
def linear (A : Vec F S16384x512 .f32) (w : Vec F S512x512 .f32) (b : Vec F S1x512 .f32) : Vec F S16384x512 .f32 :=
  fun i => chunk (chunkAt A i) w b (placeAt i)

/-- The weights' window reads the whole of its array at every point; -/
theorem iblk_weights (c : Dev nD) (t : Fin cfg0.N) : iblk m c 1 t = V m c main_arg4 := by
  funext y
  refine congrArg (V m c main_arg4) (funext fun a => Fin.ext ?_)
  refine win0_1.rect_emb_val_of_index_zero t a ?_ y
  fin_cases a <;> rfl

/-- the bias row's likewise. -/
theorem iblk_bias (c : Dev nD) (t : Fin cfg0.N) : iblk m c 2 t = V m c main_v1 := by
  funext y
  refine congrArg (V m c main_v1) (funext fun a => Fin.ext ?_)
  refine win0_2.rect_emb_val_of_index_zero t a ?_ y
  fin_cases a <;> rfl

/-- Point `t`'s rows start at row `7168 t` and are those of the 7168 that the array has. -/
theorem rows_extent (t : Fin cfg0.N) : win0_0.index t 0 = t.val ∧ win0_0.index t 1 = 0
    ∧ win0_0.xsize (grid0.coords t) 0 = min 7168 (16384 - 7168 * t.val) := by
  rcases fin_N0 t with rfl | rfl | rfl <;> decide +kernel

/-- A row of a filled block that is inside the array is the array's. -/
theorem filled_inside (c : Dev nD) (t : Fin cfg0.N) (d : Vec F S7168x512 .f32) (y : S7168x512.Idx) (i : S16384x512.Idx)
    (hy : (y 0 : Nat) < win0_0.xsize (grid0.coords t) 0) (h0 : (i 0 : Nat) = 7168 * t.val + (y 0 : Nat)) (h1 : (i 1 : Nat) = (y 1 : Nat)) :
    filled m c t d y = V m c main_v0 i := by
  obtain ⟨e0, e1, -⟩ := rows_extent t
  have hm : win0_0.moved (grid0.coords t) y = true := (win0_0.moved_iff _ y).mpr fun a => by
    match a with
    | ⟨0, _⟩ => exact hy
    | ⟨1, _⟩ =>
      show (y 1 : Nat) < win0_0.xsize (grid0.coords t) 1
      rw [(rows_inside t).2]; exact idx2_lt1 y
  unfold filled Window.fill
  rw [dif_pos hm]
  refine congrArg (V m c main_v0) (funext fun a => Fin.ext ((win0_0.rect_emb_val t _ a).trans ?_))
  match a with
  | ⟨0, _⟩ =>
    show win0_0.index t 0 * 7168 + (y 0 : Nat) = (i 0 : Nat)
    rw [e0, h0]; omega
  | ⟨1, _⟩ =>
    show win0_0.index t 1 * 512 + (y 1 : Nat) = (i 1 : Nat)
    rw [e1, h1]; omega

/-- What point `t` writes back is its part of `linear` of the arrays. -/
theorem flushed_linear (c : Dev nD) (t : Fin cfg0.N) : (dats m 0 c).flushed 3 t
    = ((cfg0.win 3).blk t).view.read (Elt F) (linear (V m c main_v0) (V m c main_arg4) (V m c main_v1)) := by
  obtain ⟨e0, e1, -⟩ := rows_extent t
  obtain ⟨hn, hc⟩ := rows_inside t
  funext j
  have hj0 : (j 0 : Nat) < win0_0.xsize (grid0.coords t) 0 := (j 0).isLt
  have i0 : ((win0_3.rect t).emb j 0 : Nat) = 7168 * t.val + (j 0 : Nat) := by
    rw [win0_3.rect_emb_val t j 0]
    show win0_0.index t 0 * 7168 + (j 0 : Nat) = _
    rw [e0]; omega
  have i1 : ((win0_3.rect t).emb j 1 : Nat) = (j 1 : Nat) := by
    rw [win0_3.rect_emb_val t j 1]
    show win0_0.index t 1 * 512 + (j 1 : Nat) = _
    rw [e1]; omega
  show block (rows0 m c t) (iblk m c 1 t) (iblk m c 2 t) (win0_3.xinj (grid0.coords t) j)
    = linear (V m c main_v0) (V m c main_arg4) (V m c main_v1) ((win0_3.rect t).emb j)
  rw [iblk_weights, iblk_bias]
  have hrows : rowsOf (rows0 m c t) (chunkOf (win0_3.xinj (grid0.coords t) j)) = chunkAt (V m c main_v0) ((win0_3.rect t).emb j) := by
    funext x
    have hx : (x 0 : Nat) < 512 := idx2_lt0 x
    unfold rowsOf chunkAt
    refine filled_inside m c t _ _ _ ?_ ?_ ?_
    · show 512 * ((j 0 : Nat) / 512) + (x 0 : Nat) < win0_0.xsize (grid0.coords t) 0
      omega
    · show 512 * (((win0_3.rect t).emb j 0 : Nat) / 512) + (x 0 : Nat) = 7168 * t.val + (512 * ((j 0 : Nat) / 512) + (x 0 : Nat))
      rw [i0]; omega
    · rfl
  have hplace : placeOf (win0_3.xinj (grid0.coords t) j) = placeAt ((win0_3.rect t).emb j) := by
    funext a
    match a with
    | ⟨0, _⟩ =>
      refine Fin.ext ?_
      show (j 0 : Nat) % 512 = ((win0_3.rect t).emb j 0 : Nat) % 512
      rw [i0]; omega
    | ⟨1, _⟩ => exact Fin.ext i1.symm
  unfold block linear
  rw [hrows, hplace]

/-- Every index of the array is among some point's rows. -/
theorem covered (i : S16384x512.Idx) : ∃ t : Fin cfg0.N, (cfg0.win 3).flush t = true ∧ i ∈ ((cfg0.win 3).blk t).view.set := by
  have h0 : (i 0 : Nat) < 16384 := idx2_lt0 i
  have h1 : (i 1 : Nat) < 512 := idx2_lt1 i
  refine ⟨(⟨(i 0 : Nat) / 7168, by omega⟩ : Fin 3), flush0_3 _, ?_⟩
  generalize ht : (⟨(i 0 : Nat) / 7168, by omega⟩ : Fin 3) = t
  have hv : t.val = (i 0 : Nat) / 7168 := by rw [← ht]
  obtain ⟨e0, e1, e2⟩ := rows_extent t
  have e3 := (rows_inside t).2
  show i ∈ ((View.whole main_v2).slice (win0_3.rect t)).set
  rw [View.set_slice_whole, Rect.mem_set_unit]
  intro a
  match a with
  | ⟨0, _⟩ =>
    show win0_0.index t 0 * 7168 ≤ (i 0 : Nat) ∧ (i 0 : Nat) < win0_0.index t 0 * 7168 + win0_0.xsize (grid0.coords t) 0
    rw [e0, e2]; omega
  | ⟨1, _⟩ =>
    show win0_0.index t 1 * 512 ≤ (i 1 : Nat) ∧ (i 1 : Nat) < win0_0.index t 1 * 512 + win0_0.xsize (grid0.coords t) 1
    rw [e1, e3]; omega

/-- The output's array ends at `linear` of the inputs' arrays as the region finds them. -/
theorem array_linear (c : Dev nD) :
    (dats m 0 c).arrAt 3 cfg0.N = linear (V m c main_v0) (V m c main_arg4) (V m c main_v1) :=
  (dats m 0 c).arrAt_eq_of_cover 3 _ (fun t _ => flushed_linear m c t) covered

/-- The rows the region finds are the points in the array's shape; -/
theorem V_rows (c : Dev nD) :
    V m c main_v0 = shapeCast S16384x512 (m ((c : Thread nD τ).loc main_arg2)) Facts₀.shapeCasts_S4x4096x512_S16384x512 := by
  simp only [V, V0, hostOps0, List.flatten_cons, List.flatten_nil, List.append_nil, List.cons_append, List.nil_append]
  after_results; rfl

/-- the bias row it finds is the bias in a row's shape. -/
theorem V_bias (c : Dev nD) :
    V m c main_v1 = shapeCast S1x512 (m ((c : Thread nD τ).loc main_arg5)) Facts₀.shapeCasts_S512_S1x512 := by
  simp only [V, V0, hostOps0, List.flatten_cons, List.flatten_nil, List.append_nil, List.cons_append, List.nil_append]
  after_results; rfl

/-- The kernel's result as a function of the points, the weights and the bias. -/
def resultOf (p : Vec F S4x4096x512 .f32) (w : Vec F S512x512 .f32) (b : Vec F S512 .f32) : Vec F S4x4096x512 .f32 :=
  shapeCast S4x4096x512 (linear (shapeCast S16384x512 p Facts₀.shapeCasts_S4x4096x512_S16384x512) w
    (shapeCast S1x512 b Facts₀.shapeCasts_S512_S1x512)) Facts₀.shapeCasts_S16384x512_S4x4096x512

/-- The kernel's result after the host's last line. -/
theorem result_linear (c : Dev nD) :
    Pipeline.afterTail₀ cfgs (dats m) 0 (V0 m) [hostOps1] c main_v3
      = resultOf (m ((c : Thread nD τ).loc main_arg2)) (m ((c : Thread nD τ).loc main_arg4)) (m ((c : Thread nD τ).loc main_arg5)) := by
  have h := (Pipeline.withArrays_arr spec0 launch0.win.arr_inj c (V0 m c) (fun w => (dats m 0 c).arrAt w cfg0.N) 3).trans (array_linear m c)
  rw [V_rows, V_main_arg4, V_bias] at h
  unfold Pipeline.afterTail₀ resultOf
  rw [← h]
  simp only [hostOps1, List.flatten_cons, List.flatten_nil, List.append_nil, List.cons_append, List.nil_append]
  after_results; rfl

/-- The run, read at the result, the arguments and the counters. -/
theorem run_values : θ_run defs (onTc (τ := τ) (main (F := F))) ⟨m, fun _ => 0, ρ⟩ (fun r => (∀ c : Dev nD,
      r.2.mem ((c.tc : Thread nD τ).loc main_v3)
        = resultOf (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => by
    have rest := fun b hb hb' => (h.1 c).2 b (Pipeline.mem_restRefs_of b hb hb')
    exact ⟨(rest main_v3 (by decide) (by decide)).trans (result_linear m c),
      (rest main_arg0 (by decide) (by decide)).trans (W_main_arg0 m (dats m) c),
      (rest main_arg1 (by decide) (by decide)).trans (W_main_arg1 m (dats m) c),
      (rest main_arg2 (by decide) (by decide)).trans (W_main_arg2 m (dats m) c),
      (rest main_arg3 (by decide) (by decide)).trans (W_main_arg3 m (dats m) c),
      ((h.1 c).1 1).trans (((dats m 0 c).arrAt_in 1 rfl _).trans (V_main_arg4 m c)),
      (rest main_arg5 (by decide) (by decide)).trans (W_main_arg5 m (dats m) c)⟩, h.2⟩) (run m ρ)

end Cert.Linear

end
-- ==== Proof.Value.lean ====
/-
  The kernel's result at the ideal values, element by element: the sum over the 512 columns of a point's entry
  times the weight's, plus the bias. One chunk gives this for its own rows (`chunk_apply`); the array's rows are the
  points' in row-major order, so the two reshapes bring an element of the result to its row (`resultOf_affine`).
-/
module

public import proofs.«01_k».proof.Proof.Array
public import Idealize.ShloMosaic.Lib.MatmulPlain

@[expose] public section

noncomputable section

namespace Cert.Linear

open Cert.Kernel Cert.Kernel.Gen
open Idealize.ShloMosaic Idealize.ShloMosaic.TcCoe Idealize.ShloMosaic.ValueIdx
open scoped BigOperators

/-- The affine map of the points: at `(i, j, o)` the sum over `k` of `p (i, j, k) * w (o, k)`, plus `b o`. -/
def affine (p : FVec Ideal S4x4096x512 .f32) (w : FVec Ideal S512x512 .f32) (b : FVec Ideal S512 .f32) : FVec Ideal S4x4096x512 .f32 :=
  fun y => (∑ k : Fin 512, p (ix3 (y 0 : Fin 4) (y 1 : Fin 4096) k) * w (ix2 (y 2 : Fin 512) k)) + b (ix1 (y 2 : Fin 512))

/-- One chunk's result at a row and a column. -/
theorem chunk_apply (x w : FVec Ideal S512x512 .f32) (b : FVec Ideal S1x512 .f32) (r o : Fin 512) :
    chunk (F := Ideal) x w b (ix2 r o) = (∑ k : Fin 512, x (ix2 r k) * w (ix2 o k)) + b (ix2 (0 : Fin 1) o) := by
  unfold chunk
  rw [shapeCast_self, shapeCast_self, addf_apply]
  have hb : broadcastTo S512x512 b Facts₀.broadcasts_S1x512_S512x512 (ix2 r o) = b (ix2 (0 : Fin 1) o) :=
    broadcastTo_apply _ _ _ _ fun a => by fin_cases a <;> rfl
  have hd : dot_S512x512_S512x512_S512x512_1_1_0_0_n_n = DotDims.transposedRhs 512 512 512 := rfl
  have hm : matmul dot_S512x512_S512x512_S512x512_1_1_0_0_n_n none x w (constant S512x512 .f32 0x00000000#32) (ix2 r o)
      = ∑ k : Fin 512, x (ix2 r k) * w (ix2 o k) := by
    rw [hd]
    refine (Ideal.matmul_transposedRhs_apply none x w _ r o).trans ?_
    show Ideal.ofBits .f32 0x00000000#32 + _ = _
    rw [Ideal.ofBits_zero_f32, zero_add]
  rw [hm, hb]

/-- The whole array's result at a row and a column. -/
theorem linear_apply (A : FVec Ideal S16384x512 .f32) (w : FVec Ideal S512x512 .f32) (b : FVec Ideal S1x512 .f32)
    (r : Fin 16384) (o : Fin 512) :
    linear (F := Ideal) A w b (ix2 r o) = (∑ k : Fin 512, A (ix2 r k) * w (ix2 o k)) + b (ix2 (0 : Fin 1) o) := by
  have hr : ∀ k : Fin 512, chunkAt (F := Ideal) A (ix2 r o) (ix2 (⟨r.val % 512, Nat.mod_lt _ (by decide)⟩ : Fin 512) k) = A (ix2 r k) := fun k => by
    unfold chunkAt
    refine congrArg A (funext fun a => Fin.ext ?_)
    match a with
    | ⟨0, _⟩ =>
      show 512 * (r.val / 512) + r.val % 512 = r.val
      omega
    | ⟨1, _⟩ => rfl
  refine (chunk_apply (chunkAt (F := Ideal) A (ix2 r o)) w b ⟨r.val % 512, Nat.mod_lt _ (by decide)⟩ o).trans ?_
  simp only [hr]

/-- The kernel's result is the affine map of the points. -/
theorem resultOf_affine (p : FVec Ideal S4x4096x512 .f32) (w : FVec Ideal S512x512 .f32) (b : FVec Ideal S512 .f32) :
    resultOf (F := Ideal) p w b = affine p w b := by
  funext y
  have h0 : (y 0 : Nat) < 4 := (y 0).isLt
  have h1 : (y 1 : Nat) < 4096 := (y 1).isLt
  unfold resultOf
  refine (shapeCast_apply _ _ y (ix2 (⟨(y 0 : Nat) * 4096 + (y 1 : Nat), by omega⟩ : Fin 16384) (y 2 : Fin 512))
    ((Shape.rowMajor_val_two _).trans (Shape.rowMajor_val_three _).symm)).trans ((linear_apply _ _ _ _ _).trans ?_)
  unfold affine
  congr 1
  · refine Finset.sum_congr rfl fun k _ => congrArg (· * _) ?_
    exact shapeCast_apply _ _ _ (ix3 (y 0 : Fin 4) (y 1 : Fin 4096) k)
      (by rw [Shape.rowMajor_val_three, Shape.rowMajor_val_two]; rfl)
  · refine shapeCast_apply _ _ _ (ix1 (y 2 : Fin 512)) ((Shape.rowMajor_val_one _).trans ?_)
    rw [Shape.rowMajor_val_two]
    show (y 2 : Nat) = 0 * 512 + (y 2 : Nat)
    omega

end Cert.Linear

end
-- ==== Proof.Transfer.lean ====
/-
  The kernel and its reading at the ideal values are one text, printed once for each: no operation was replaced. So
  the two programs are equal by unfolding, and a run of the first, which the other modules prove for any float
  values, is a run of the second.
-/
module

public import proofs.«01_k».proof.Proof.Value
public import proofs.«01_k».proof.Proof.Gen.KernelIdeal.Frame

@[expose] public section

noncomputable section

namespace Cert.Linear

open Idealize.ShloMosaic Idealize.ShloMosaic.TcCoe Idealize.SL.Sem

variable {F : FTy → Type} [FloatOps F]

/-- The two programs call the same kernel body. -/
theorem same_bodies : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl

/-- So they have the same procedures. -/
theorem same_defs : Cert.KernelIdeal.defs (F := F) = Cert.Kernel.defs (F := F) := by
  unfold Cert.KernelIdeal.defs Cert.Kernel.defs
  exact congrArg (Pipeline.defs _) same_bodies

/-- A run of the kernel is a run of its reading at the ideal values. -/
theorem run_transfer (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop)
    (h : θ_run (Cert.Kernel.defs (F := F)) (onTc (τ := Cert.Kernel.τ) (Cert.Kernel.main (F := F))) ⟨m, fun _ => 0, g⟩ Q) :
    θ_run (Cert.KernelIdeal.defs (F := F)) (onTc (τ := Cert.KernelIdeal.τ) (Cert.KernelIdeal.main (F := F))) ⟨m, fun _ => 0, g⟩ Q := by
  rw [same_defs]; exact h

end Cert.Linear

end
-- ==== Proof.Reference.lean ====
/-
  The reference's result at the ideal values. Its last lines join the points with an array of no columns, multiply
  by the transposed weights and add the bias along every row: the affine map of the points, whatever stands in the
  array of no columns.
-/
module

public import proofs.«01_k».proof.Proof.Value
public import proofs.«01_k».proof.Proof.Gen.ReferenceIdeal.Run
public import Idealize.ShloMosaic.Lib.Quiescent

@[expose] public section

noncomputable section

namespace Cert.LinearReference

open Cert.ReferenceIdeal Cert.ReferenceIdeal.Gen
open Idealize.ShloMosaic Idealize.ShloMosaic.TcCoe Idealize.ShloMosaic.ValueIdx Idealize.SL.Sem
open scoped BigOperators

/-- The product of the points with a matrix of 512 rows, at an element. -/
theorem product_apply (p : FVec Ideal S4x4096x512 .f32) (v : FVec Ideal S512x512 .f32) (y : S4x4096x512.Idx) :
    Host.dotGeneral dot_S4x4096x512_S512x512_S4x4096x512_2_0_01_1_n_n none p v y
      = ∑ k : Fin 512, p (ix3 (y 0 : Fin 4) (y 1 : Fin 4096) k) * v (ix2 k (y 2 : Fin 512)) := by
  show FloatOps.dotGeneral _ none _ p v y = _
  rw [Ideal.dotGeneral_apply, ← Equiv.sum_comp (contrEquiv1 dot_S4x4096x512_S512x512_S4x4096x512_2_0_01_1_n_n 512 rfl rfl).symm]
  refine Finset.sum_congr rfl fun k _ => ?_
  have hk := contrEquiv1_symm_val dot_S4x4096x512_S512x512_S4x4096x512_2_0_01_1_n_n 512 rfl rfl k
  refine congrArg₂ (· * ·) (congrArg p (funext fun a => Fin.ext ?_)) (congrArg v (funext fun a => Fin.ext ?_))
  · match a with
    | ⟨0, _⟩ => rfl
    | ⟨1, _⟩ => rfl
    | ⟨2, _⟩ => exact hk
  · match a with
    | ⟨0, _⟩ => exact hk
    | ⟨1, _⟩ => rfl

/-- Points joined with an array of no columns are the points. -/
theorem joined (p : FVec Ideal S4x4096x512 .f32) (e : FVec Ideal S4x4096x0 .f32) :
    concatenate S4x4096x512 2 [⟨S4x4096x512, p⟩, ⟨S4x4096x0, e⟩] concatenates_S4x4096x512_S4x4096x0_S4x4096x512_d2 = p :=
  funext fun y => concatenate_pair_apply_left _ _ _ _ y rfl y fun _ => rfl

/-- The reference's last lines compute the affine map. -/
theorem tail_affine (p : FVec Ideal S4x4096x512 .f32) (e : FVec Ideal S4x4096x0 .f32) (w : FVec Ideal S512x512 .f32) (b : FVec Ideal S512 .f32) :
    addf (Host.dotGeneral dot_S4x4096x512_S512x512_S4x4096x512_2_0_01_1_n_n none
        (concatenate S4x4096x512 2 [⟨S4x4096x512, p⟩, ⟨S4x4096x0, e⟩] concatenates_S4x4096x512_S4x4096x0_S4x4096x512_d2)
        (transpose S512x512 [1, 0] w transposes_S512x512_S512x512_1_0))
      (broadcastInDim S4x4096x512 ![0, 1, 2] bcast_S1x1x512_S4x4096x512_0_1_2 (broadcastInDim S1x1x512 ![2] bcast_S512_S1x1x512_2 b))
      = Cert.Linear.affine p w b := by
  funext y
  rw [joined, addf_apply, product_apply]
  unfold Cert.Linear.affine
  refine congrArg₂ (· + ·) (Finset.sum_congr rfl fun k _ => congrArg (_ * ·) ?_) ?_
  · exact transpose_apply _ _ _ _ (ix2 (y 2 : Fin 512) k) fun a => by fin_cases a <;> rfl
  · refine (broadcastInDim_apply _ bcast_S1x1x512_S4x4096x512_0_1_2 _ y (ix3 (0 : Fin 1) (0 : Fin 1) (y 2 : Fin 512)) fun a => ?_).trans
      (broadcastInDim_apply _ bcast_S512_S1x1x512_2 _ _ (ix1 (y 2 : Fin 512)) fun a => ?_)
    · fin_cases a <;> rfl
    · fin_cases a; rfl

/-- The reference's run: its result is the affine map of its arguments, which end as they were, and it has no
    semaphore whose counter could differ from zero. -/
theorem run_values (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v56)
        = Cert.Linear.affine (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun r h => ⟨fun c => ⟨(h c).1.trans (tail_affine _ _ _ _), (h c).2⟩,
    sem_eq_zero_of_no_sems (by decide) r.2⟩) (Value.run (F := Ideal) m ρ)

end Cert.LinearReference

end
-- ==== Proof.lean ====
/-
  The five claims about the linear layer: the kernel and its reading at the ideal values run from any memory and
  leave their arguments as they were and every semaphore counter at zero, and so does the reference; the reading at
  the ideal values replaced no operation; and at the ideal values the kernel's result and the reference's are the
  same affine map of the points (`Cert.Linear.affine`).
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Transfer
public import proofs.«01_k».proof.Proof.Reference

@[expose] public section

noncomputable section

namespace Cert.Proof

open Idealize.ShloMosaic Idealize.ShloMosaic.TcCoe Idealize.SL.Sem Cert.Kernel

/-- The kernel's frame: arguments kept and counters at zero. -/
theorem frame_kernel : Cert.quiescent_Kernel := fun m g _ =>
  (θ_run Cert.Kernel.defs _ _).mono (fun _ h => ⟨fun c => (h.1 c).2, h.2⟩) (Cert.Linear.run_values (F := Bits) m g)

/-- The frame of its reading at the ideal values. -/
theorem frame_ideal : Cert.quiescent_KernelIdeal := fun m g _ =>
  (θ_run Cert.KernelIdeal.defs _ _).mono (fun _ h => ⟨fun c => (h.1 c).2, h.2⟩) (Cert.Linear.run_transfer m g _ (Cert.Linear.run_values m g))

/-- The reference's frame. -/
theorem frame_reference : Cert.quiescent_ReferenceIdeal := fun m g _ =>
  (θ_run Cert.ReferenceIdeal.defs _ _).mono (fun _ h => ⟨fun c => (h.1 c).2, h.2⟩) (Cert.LinearReference.run_values m g)

/-- From equal arguments the kernel at the ideal values and the reference end with equal results. -/
theorem equal_results : Cert.algebraic_KernelIdeal_ReferenceIdeal := by
  intro m g m' g' _ hargs
  refine ⟨fun c => Cert.Linear.affine (m ((c.tc : Thread Cert.KernelIdeal.nD Cert.KernelIdeal.τ).loc Cert.KernelIdeal.main_arg2))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run Cert.KernelIdeal.defs _ _).mono
      (fun _ h c => ⟨(h.1 c).1.trans (Cert.Linear.resultOf_affine _ _ _), (h.1 c).2⟩) (Cert.Linear.run_transfer m g _ (Cert.Linear.run_values m g))
  · refine (θ_run Cert.ReferenceIdeal.defs _ _).mono (fun _ h c => ⟨(h.1 c).1.trans ?_, (h.1 c).2⟩) (Cert.LinearReference.run_values m' g')
    obtain ⟨-, -, h2, -, h4, h5⟩ := hargs c
    rw [h2, h4, h5]

/-- All five claims. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
